-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x17x3 : Shape := ⟨4, ![16, 4096, 17, 3]⟩
abbrev S16x4096 : Shape := ⟨2, ![16, 4096]⟩
abbrev S16x4096x1 : Shape := ⟨3, ![16, 4096, 1]⟩
abbrev S1024x51 : Shape := ⟨2, ![1024, 51]⟩
abbrev S1024 : Shape := ⟨1, ![1024]⟩
abbrev S65536x51 : Shape := ⟨2, ![65536, 51]⟩
abbrev S65536x1 : Shape := ⟨2, ![65536, 1]⟩
abbrev S51x1024 : Shape := ⟨2, ![51, 1024]⟩
abbrev S1x1024 : Shape := ⟨2, ![1, 1024]⟩
abbrev S65536x1024 : Shape := ⟨2, ![65536, 1024]⟩
abbrev S1024x1 : Shape := ⟨2, ![1024, 1]⟩
abbrev S1024x1024 : Shape := ⟨2, ![1024, 1024]⟩
abbrev S16x4096x1024 : Shape := ⟨3, ![16, 4096, 1024]⟩

abbrev nBuf : Space → Nat
  | .hbm => 13
  | .vmem => 10
  | .smem => 0
  | _ => 0

abbrev bufTy : (tb : Table) → Fin (tcTables nBuf tb) → BufTy
  | .hbm, ⟨0, _⟩ => ⟨S16x4096x17x3, .f32⟩
  | .hbm, ⟨1, _⟩ => ⟨S16x4096, .i1⟩
  | .hbm, ⟨2, _⟩ => ⟨S16x4096x1, .i32⟩
  | .hbm, ⟨3, _⟩ => ⟨S1024x51, .f32⟩
  | .hbm, ⟨4, _⟩ => ⟨S1024, .f32⟩
  | .hbm, ⟨5, _⟩ => ⟨S65536x51, .f32⟩
  | .hbm, ⟨6, _⟩ => ⟨S65536x1, .i1⟩
  | .hbm, ⟨7, _⟩ => ⟨S65536x1, .i32⟩
  | .hbm, ⟨8, _⟩ => ⟨S65536x1, .i32⟩
  | .hbm, ⟨9, _⟩ => ⟨S51x1024, .f32⟩
  | .hbm, ⟨10, _⟩ => ⟨S1x1024, .f32⟩
  | .hbm, ⟨11, _⟩ => ⟨S65536x1024, .f32⟩
  | .hbm, ⟨12, _⟩ => ⟨S16x4096x1024, .f32⟩
  | .local _ .vmem, ⟨0, _⟩ => ⟨S1024x51, .f32⟩
  | .local _ .vmem, ⟨1, _⟩ => ⟨S1024x51, .f32⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S51x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16x4096x17x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x51 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S51x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x4096x17x3 : Shape := ⟨4, ![16, 4096, 17, 3]⟩
abbrev S16x4096 : Shape := ⟨2, ![16, 4096]⟩
abbrev S16x4096x1 : Shape := ⟨3, ![16, 4096, 1]⟩
abbrev S1024x51 : Shape := ⟨2, ![1024, 51]⟩
abbrev S1024 : Shape := ⟨1, ![1024]⟩
abbrev S16x4096x51 : Shape := ⟨3, ![16, 4096, 51]⟩
abbrev S16x4096x1024 : Shape := ⟨3, ![16, 4096, 1024]⟩
abbrev S1x1x1024 : Shape := ⟨3, ![1, 1, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x17x3, .f32⟩
  | .hbm, ⟨1, _⟩ => ⟨S16x4096, .i1⟩
  | .hbm, ⟨2, _⟩ => ⟨S16x4096x1, .i32⟩
  | .hbm, ⟨3, _⟩ => ⟨S1024x51, .f32⟩
  | .hbm, ⟨4, _⟩ => ⟨S1024, .f32⟩
  | .hbm, ⟨5, _⟩ => ⟨S16x4096x51, .f32⟩
  | .hbm, ⟨6, _⟩ => ⟨S16x4096x1024, .f32⟩
  | .hbm, ⟨7, _⟩ => ⟨S1x1x1024, .f32⟩
  | .hbm, ⟨8, _⟩ => ⟨S16x4096x1024, .f32⟩
  | .hbm, ⟨9, _⟩ => ⟨S16x4096x1024, .f32⟩
  | .hbm, ⟨10, _⟩ => ⟨S16x4096, .i32⟩
  | .hbm, ⟨11, _⟩ => ⟨S_, .i32⟩
  | .hbm, ⟨12, _⟩ => ⟨S16x4096, .i32⟩
  | .hbm, ⟨13, _⟩ => ⟨S16x4096, .i1⟩
  | .hbm, ⟨14, _⟩ => ⟨S16x4096x1, .i1⟩
  | .hbm, ⟨15, _⟩ => ⟨S_, .f32⟩
  | .hbm, ⟨16, _⟩ => ⟨S_, .f32⟩
  | .hbm, ⟨17, _⟩ => ⟨S16x4096x1024, .i1⟩
  | .hbm, ⟨18, _⟩ => ⟨S16x4096x1024, .f32⟩
  | .hbm, ⟨19, _⟩ => ⟨S16x4096x1024, .f32⟩
  | .hbm, ⟨20, _⟩ => ⟨S16x4096x1, .i1⟩
  | .hbm, ⟨21, _⟩ => ⟨S_, .f32⟩
  | .hbm, ⟨22, _⟩ => ⟨S_, .f32⟩
  | .hbm, ⟨23, _⟩ => ⟨S16x4096x1024, .i1⟩
  | .hbm, ⟨24, _⟩ => ⟨S16x4096x1024, .f32⟩
  | .hbm, ⟨25, _⟩ => ⟨S16x4096x1024, .f32⟩
  | _, _ => ⟨S16x4096x17x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v11 : Ref sig .tc := ⟨.hbm, 25, rfl⟩

abbrev nD : Nat := 1
abbrev τ : Topo := Topo.v7x

variable {F : FTy → Type} [FloatOps F]
-- ==== Proof.Spec.lean ====
/-
  The function that both programs compute, written over the extended reals: a token is the linear projection of its
  51 key-point numbers plus the bias, and it is zero where its mask bit is off or where it is flagged to be dropped.
-/
module

public import Idealize.ShloMosaic.Lib.Pointwise

@[expose] public section

noncomputable section

namespace Cert.Tokens

open Idealize.ShloMosaic

/-- The key points, [batch, position, key point, channel]. -/
abbrev Points := FVec Ideal ⟨4, ![16, 4096, 17, 3]⟩ .f32
/-- The mask bits, [batch, position]. -/
abbrev Masks := IVec ⟨2, ![16, 4096]⟩ 1
/-- The drop flags, [batch, position, 1]: a token is dropped where its flag is the number 1. -/
abbrev Flags := IVec ⟨3, ![16, 4096, 1]⟩ 32
/-- The weights, [hidden unit, feature]. -/
abbrev Weights := FVec Ideal ⟨2, ![1024, 51]⟩ .f32
/-- The bias of each hidden unit. -/
abbrev Bias := FVec Ideal ⟨1, ![1024]⟩ .f32

/-- Whether a token is kept: its mask bit is set and its drop flag is not 1. -/
def Kept (fm : Masks) (dk : Flags) (b : Fin 16) (s : Fin 4096) : Prop :=
  fm (ix2 b s) = 1#1 ∧ dk (ix3 b s 0) ≠ 1#32

/-- Feature `k` of a token: channel `k % 3` of key point `k / 3`. -/
def feature (x : Points) (b : Fin 16) (s : Fin 4096) (k : Fin 51) : EReal :=
  x (ix4 b s ⟨k / 3, by omega⟩ ⟨k % 3, by omega⟩)

/-- Hidden unit `h` of the projected token: the sum over the features, plus the bias. -/
def proj (x : Points) (w : Weights) (bias : Bias) (b : Fin 16) (s : Fin 4096) (h : Fin 1024) : EReal :=
  (∑ k : Fin 51, feature x b s k * w (ix2 h k)) + bias (ix1 h)

open Classical in
/-- Hidden unit `h` of the token at position `s` of batch `b`: the projection where the token is kept, zero elsewhere. -/
def token (x : Points) (fm : Masks) (dk : Flags) (w : Weights) (bias : Bias) (b : Fin 16) (s : Fin 4096) (h : Fin 1024) :
    EReal :=
  if Kept fm dk b s then proj x w bias b s h else 0

end Cert.Tokens

end
-- ==== Proof.Ref.lean ====
/-
  What the reference computes: read at an index, the composed term of its host operations is the token.
-/
module

public import proofs.«01_k».proof.Proof.Spec
public import proofs.«01_k».proof.Proof.Gen.ReferenceIdeal

@[expose] public section

set_option maxRecDepth 16384

noncomputable section

namespace Cert.Tokens

open Idealize.ShloMosaic Cert.ReferenceIdeal Cert.ReferenceIdeal.Gen

/-- The projection as the host writes it: the key points reshaped to rows of 51, one product with the weights, the bias
    broadcast and added. -/
def hostProj (x : Points) (w : Weights) (bias : Bias) : FVec Ideal S16x4096x1024 .f32 :=
  addf (Host.dotGeneral dot_S16x4096x51_S1024x51_S16x4096x1024_2_1_01_0_n_n none
      (shapeCast S16x4096x51 x shapeCasts_S16x4096x17x3_S16x4096x51) w)
    (broadcastInDim S16x4096x1024 ![0, 1, 2] bcast_S1x1x1024_S16x4096x1024_0_1_2
      (broadcastInDim S1x1x1024 ![2] bcast_S1024_S1x1x1024_2 bias))

/-- The host's projection at an index is `proj`. -/
theorem hostProj_apply (x : Points) (w : Weights) (bias : Bias) (b : Fin 16) (s : Fin 4096) (h : Fin 1024) :
    hostProj x w bias (ix3 b s h) = proj x w bias b s h := by
  pointwise [hostProj, proj, feature]

/-- The reference's composed term: the projection, zeroed where the flag is 1, then kept where the mask bit is set. -/
def hostTokens (x : Points) (fm : Masks) (dk : Flags) (w : Weights) (bias : Bias) : FVec Ideal S16x4096x1024 .f32 :=
  select (broadcastInDim S16x4096x1024 ![0, 1, 2] bcast_S16x4096x1_S16x4096x1024_0_1_2
      (broadcastInDim S16x4096x1 ![0, 1] bcast_S16x4096_S16x4096x1_0_1 fm))
    (select (broadcastInDim S16x4096x1024 ![0, 1, 2] bcast_S16x4096x1_S16x4096x1024_0_1_2
        (broadcastInDim S16x4096x1 ![0, 1] bcast_S16x4096_S16x4096x1_0_1
          (cmpi .eq (shapeCast S16x4096 dk shapeCasts_S16x4096x1_S16x4096)
            (broadcastInDim S16x4096 ![] bcast_S_S16x4096 (constantI S_ 32 1#32)))))
      (broadcastInDim S16x4096x1024 ![] bcast_S_S16x4096x1024 (id (constant S_ .f32 0x00000000#32)))
      (hostProj x w bias))
    (broadcastInDim S16x4096x1024 ![] bcast_S_S16x4096x1024 (id (constant S_ .f32 0x00000000#32)))

/-- The reference's term at an index is `token`. -/
theorem hostTokens_apply (x : Points) (fm : Masks) (dk : Flags) (w : Weights) (bias : Bias)
    (b : Fin 16) (s : Fin 4096) (h : Fin 1024) :
    hostTokens x fm dk w bias (ix3 b s h) = token x fm dk w bias b s h := by
  pointwise [hostTokens]
  rw [hostProj_apply]
  unfold token Kept
  have z : id (constant S_ .f32 0x00000000#32 : FVec Ideal S_ .f32) ix0 = 0 := Ideal.ofBits_zero_f32
  rw [z]
  rcases BitVec.eq_zero_or_eq_one (fm (ix2 b s)) with hm | hm <;> by_cases hd : dk (ix3 b s 0) = 1#32
  · simp [hm, hd, Scalar.select]
  · simp [hm, hd, Scalar.select]
  · simp [hm, hd, Scalar.select, IntOp.cmpi]
  · simp [hm, hd, Scalar.select, IntOp.cmpi, beq_eq_false_iff_ne.mpr hd]

end Cert.Tokens

end
-- ==== Proof.Block.lean ====
/-
  One block of the kernel: what its body computes from a block of rows, read at a row and a hidden unit.
-/
module

public import proofs.«01_k».proof.Proof.Spec
public import proofs.«01_k».proof.Proof.Gen.KernelIdeal.Skeleton

@[expose] public section

set_option maxRecDepth 16384

noncomputable section

namespace Cert.Tokens

open Idealize.ShloMosaic Cert.KernelIdeal Cert.KernelIdeal.Gen

/-- A row of the block is the product with the weights plus the bias, and zero unless the row's mask word is nonzero and
    its flag is not 1. -/
theorem block_apply (x : FVec Ideal S1024x51 .f32) (wt : FVec Ideal S51x1024 .f32) (bias : FVec Ideal S1x1024 .f32)
    (mask flag : IVec S1024x1 32) (r : Fin 1024) (h : Fin 1024) :
    k0_pay1 x wt bias mask flag (ix2 r h)
      = if mask (ix2 r 0) ≠ 0#32 ∧ flag (ix2 r 0) ≠ 1#32 then (∑ k : Fin 51, x (ix2 r k) * wt (ix2 k h)) + bias (ix2 0 h)
        else 0 := by
  pointwise [k0_pay1]
  by_cases hm : mask (ix2 r 0) = 0#32
  · simp [hm, Scalar.select, IntOp.cmpi, IntOp.andi]
  by_cases hd : flag (ix2 r 0) = 1#32
  · simp [hd, Scalar.select, IntOp.cmpi, IntOp.andi]
  · simp [hm, hd, Scalar.select, IntOp.cmpi, IntOp.andi, bne, beq_eq_false_iff_ne.mpr hm, beq_eq_false_iff_ne.mpr hd]

end Cert.Tokens

end
-- ==== Proof.Array.lean ====
/-
  The kernel's output array: the blocks of rows the grid writes, put together, are the tokens in row order, row
  `4096 * b + s` being position `s` of batch `b`.
-/
module

public import proofs.«01_k».proof.Proof.Block
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.Tokens

open Idealize.ShloMosaic Idealize.ShloMosaic.TcCoe Idealize.ShloMosaic.Pipeline Cert.KernelIdeal Cert.KernelIdeal.Gen

variable (m : (ℓ : Loc nD τ sig) → Buf (Elt Ideal) ℓ) (c : Dev nD)

/-- The token of row `n`, from the five argument arrays as launched. -/
def row (n : Fin 65536) (h : Fin 1024) : EReal :=
  token (m ((c : Thread nD τ).loc main_arg0)) (m ((c : Thread nD τ).loc main_arg1)) (m ((c : Thread nD τ).loc main_arg2))
    (m ((c : Thread nD τ).loc main_arg3)) (m ((c : Thread nD τ).loc main_arg4)) ⟨n / 4096, by omega⟩ ⟨n % 4096, by omega⟩ h

/-! ## Where each block lies: point `t` takes the `t`-th block of rows, and the whole of the weights and of the bias -/

/-- Window 0's block index at point `t`. -/
theorem index0 : ∀ t : Fin cfg0.N, win0_0.index t = ![t.val, 0] := (by decide +kernel : ∀ t : Fin grid0.N, _)
/-- Window 1's block index at point `t`. -/
theorem index1 : ∀ t : Fin cfg0.N, win0_1.index t = ![t.val, 0] := (by decide +kernel : ∀ t : Fin grid0.N, _)
/-- Window 2's block index at point `t`. -/
theorem index2 : ∀ t : Fin cfg0.N, win0_2.index t = ![t.val, 0] := (by decide +kernel : ∀ t : Fin grid0.N, _)
/-- Window 3's block index at point `t`. -/
theorem index3 : ∀ t : Fin cfg0.N, win0_3.index t = ![0, 0] := (by decide +kernel : ∀ t : Fin grid0.N, _)
/-- Window 4's block index at point `t`. -/
theorem index4 : ∀ t : Fin cfg0.N, win0_4.index t = ![0, 0] := (by decide +kernel : ∀ t : Fin grid0.N, _)
/-- Window 5's block index at point `t`. -/
theorem index5 : ∀ t : Fin cfg0.N, win0_5.index t = ![t.val, 0] := (by decide +kernel : ∀ t : Fin grid0.N, _)

/-! ## What the arrays of the region hold when it starts -/

/-- When the region starts, window 0's array is the key points as rows of 51. -/
theorem entry0 : (V m c main_v0 : FVec Ideal S65536x51 .f32)
    = shapeCast S65536x51 (m ((c : Thread nD τ).loc main_arg0) : Points) shapeCasts_S16x4096x17x3_S65536x51 := by
  show StableHlo.after hostOps0 _ _ = _
  entry_read
  rfl

/-- When the region starts, window 1's array is the mask bits widened to words, one column. -/
theorem entry1 : (V m c main_v2 : IVec S65536x1 32)
    = extui 32 (shapeCast S65536x1 (m ((c : Thread nD τ).loc main_arg1) : Masks) shapeCasts_S16x4096_S65536x1) natLt_1_32 := by
  show StableHlo.after hostOps0 _ _ = _
  entry_read
  rfl

/-- When the region starts, window 2's array is the drop flags as one column. -/
theorem entry2 : (V m c main_v3 : IVec S65536x1 32)
    = shapeCast S65536x1 (m ((c : Thread nD τ).loc main_arg2) : Flags) shapeCasts_S16x4096x1_S65536x1 := by
  show StableHlo.after hostOps0 _ _ = _
  entry_read
  rfl

/-- When the region starts, window 3's array is the weights transposed. -/
theorem entry3 : (V m c main_v4 : FVec Ideal S51x1024 .f32)
    = transpose S51x1024 [1, 0] (m ((c : Thread nD τ).loc main_arg3) : Weights) transposes_S1024x51_S51x1024_1_0 := by
  show StableHlo.after hostOps0 _ _ = _
  entry_read
  rfl

/-- When the region starts, window 4's array is the bias as one row. -/
theorem entry4 : (V m c main_v5 : FVec Ideal S1x1024 .f32)
    = shapeCast S1x1024 (m ((c : Thread nD τ).loc main_arg4) : Bias) shapeCasts_S1024_S1x1024 := by
  show StableHlo.after hostOps0 _ _ = _
  entry_read
  rfl

/-! ## The blocks at a point, read at a row: row `r` of point `t` is row `1024 * t + r` of the array -/

/-- The row of the array that row `r` of the block at point `t` is. -/
def rowAt (t : Fin cfg0.N) (r : Fin 1024) : Fin 65536 :=
  ⟨1024 * t.val + r.val, by have h : t.val < 64 := t.isLt; omega⟩

/-- The block of the key points at point `t`, read off its array. -/
theorem rows0 (t : Fin cfg0.N) (r : Fin 1024) (k : Fin 51) :
    iblk m c 0 t (ix2 r k) = (V m c main_v0 : FVec Ideal S65536x51 .f32) (ix2 (rowAt t r) k) := by
  blk_ext [iblk, index0 t, rowAt]

/-- The block of the mask words at point `t`, read off its array. -/
theorem rows1 (t : Fin cfg0.N) (r : Fin 1024) :
    iblk m c 1 t (ix2 r 0) = (V m c main_v2 : IVec S65536x1 32) (ix2 (rowAt t r) 0) := by
  blk_ext [iblk, index1 t, rowAt]

/-- The block of the drop flags at point `t`, read off its array. -/
theorem rows2 (t : Fin cfg0.N) (r : Fin 1024) :
    iblk m c 2 t (ix2 r 0) = (V m c main_v3 : IVec S65536x1 32) (ix2 (rowAt t r) 0) := by
  blk_ext [iblk, index2 t, rowAt]

/-- The block of the weights at point `t`, read off its array. -/
theorem rows3 (t : Fin cfg0.N) (k : Fin 51) (h : Fin 1024) :
    iblk m c 3 t (ix2 k h) = (V m c main_v4 : FVec Ideal S51x1024 .f32) (ix2 k h) := by
  blk_ext [iblk, index3 t]

/-- The block of the bias at point `t`, read off its array. -/
theorem rows4 (t : Fin cfg0.N) (h : Fin 1024) :
    iblk m c 4 t (ix2 0 h) = (V m c main_v5 : FVec Ideal S1x1024 .f32) (ix2 0 h) := by
  blk_ext [iblk, index4 t]

/-! ## The same arrays, read off the arguments -/

/-- The array of the key points at an index, read off the argument. -/
theorem point0 (n : Fin 65536) (k : Fin 51) :
    (V m c main_v0 : FVec Ideal S65536x51 .f32) (ix2 n k)
      = feature (m ((c : Thread nD τ).loc main_arg0)) ⟨n / 4096, by omega⟩ ⟨n % 4096, by omega⟩ k := by
  rw [entry0]
  refine shapeCast_apply _ _ _ (ix4 ⟨n / 4096, by omega⟩ ⟨n % 4096, by omega⟩ ⟨k / 3, by omega⟩ ⟨k % 3, by omega⟩) ?_
  erw [Shape.rowMajor_val_four, Shape.rowMajor_val_two]
  show ((n.val / 4096 * 4096 + n.val % 4096) * 17 + k.val / 3) * 3 + k.val % 3 = n.val * 51 + k.val
  omega

/-- A bit widened to a word is nonzero exactly when it is 1. -/
theorem mask_word (v : BitVec 1) : BitVec.setWidth 32 v ≠ 0#32 ↔ v = 1#1 := by
  revert v; decide

/-- The mask bits reshaped to one column, at row `n`. -/
theorem mask_row (x : Masks) (n : Fin 65536) :
    shapeCast S65536x1 x shapeCasts_S16x4096_S65536x1 (ix2 n 0) = x (ix2 ⟨n / 4096, by omega⟩ ⟨n % 4096, by omega⟩) := by
  refine shapeCast_apply _ _ _ _ ?_
  erw [Shape.rowMajor_val_two, Shape.rowMajor_val_two]
  show n.val / 4096 * 4096 + n.val % 4096 = n.val * 1 + 0
  omega

/-- The mask word is nonzero exactly where the mask bit is set. -/
theorem point1 (n : Fin 65536) :
    (V m c main_v2 : IVec S65536x1 32) (ix2 n 0) ≠ 0#32
      ↔ (m ((c : Thread nD τ).loc main_arg1) : Masks) (ix2 ⟨n / 4096, by omega⟩ ⟨n % 4096, by omega⟩) = 1#1 := by
  rw [entry1]
  show BitVec.setWidth 32 (shapeCast S65536x1 (m ((c : Thread nD τ).loc main_arg1) : Masks) shapeCasts_S16x4096_S65536x1
    (ix2 n 0)) ≠ 0#32 ↔ _
  rw [mask_row]
  exact mask_word _

/-- The array of the drop flags at an index, read off the argument. -/
theorem point2 (n : Fin 65536) :
    (V m c main_v3 : IVec S65536x1 32) (ix2 n 0)
      = (m ((c : Thread nD τ).loc main_arg2) : Flags) (ix3 ⟨n / 4096, by omega⟩ ⟨n % 4096, by omega⟩ 0) := by
  rw [entry2]
  refine shapeCast_apply _ _ _ _ ?_
  erw [Shape.rowMajor_val_three, Shape.rowMajor_val_two]
  show (n.val / 4096 * 4096 + n.val % 4096) * 1 + 0 = n.val * 1 + 0
  omega

/-- The array of the weights at an index, read off the argument. -/
theorem point3 (k : Fin 51) (h : Fin 1024) :
    (V m c main_v4 : FVec Ideal S51x1024 .f32) (ix2 k h) = (m ((c : Thread nD τ).loc main_arg3) : Weights) (ix2 h k) := by
  rw [entry3]
  pointwise

/-- The array of the bias at an index, read off the argument. -/
theorem point4 (h : Fin 1024) :
    (V m c main_v5 : FVec Ideal S1x1024 .f32) (ix2 0 h) = (m ((c : Thread nD τ).loc main_arg4) : Bias) (ix1 h) := by
  rw [entry4]
  pointwise

/-! ## The output array -/

/-- What the body leaves at point `t` is the tokens of the point's rows. -/
theorem block_row (t : Fin cfg0.N) (r h : Fin 1024) :
    k0_pay1 (iblk m c 0 t) (iblk m c 3 t) (iblk m c 4 t) (iblk m c 1 t) (iblk m c 2 t) (ix2 r h) = row m c (rowAt t r) h := by
  rw [block_apply]
  simp only [rows0, rows1, rows2, rows3, rows4]
  unfold row token Kept proj
  congr
  · exact propext (point1 m c _)
  · exact point2 m c _
  · exact funext fun k => congrArg₂ (· * ·) (point0 m c _ k) (point3 m c k h)
  · exact point4 m c h

/-- The output array at the end of the grid is the array whose row `n` is the token of row `n`. -/
theorem array (G : FVec Ideal S65536x1024 .f32) (hG : ∀ n h, G (ix2 n h) = row m c n h) :
    (dats m 0 c).arrAt 5 cfg0.N = G := by
  refine (dats m 0 c).arrAt_eq_of_covers 5 _ (by decide +kernel) fun t hf y => ?_
  blk_simp
  rw [after0_5]
  frame_out
  obtain ⟨r, h, rfl⟩ : ∃ (r h : Fin 1024), y = ix2 r h := ⟨y 0, y 1, eq_ix2 y⟩
  rw [block_row, ← hG]
  blk_ext [index5 t, rowAt]

end Cert.Tokens

end
-- ==== Proof.Value.lean ====
/-
  The kernel's result: the output array reshaped to [batch, position, hidden unit] is, at every index, the token.
-/
module

public import proofs.«01_k».proof.Proof.Array

@[expose] public section

set_option maxRecDepth 16384

noncomputable section

namespace Cert.Tokens

open Idealize.ShloMosaic Idealize.ShloMosaic.TcCoe Idealize.ShloMosaic.Pipeline Cert.KernelIdeal Cert.KernelIdeal.Gen

variable (m : (ℓ : Loc nD τ sig) → Buf (Elt Ideal) ℓ) (c : Dev nD)

/-- The rows of tokens as one array. -/
def rows : FVec Ideal S65536x1024 .f32 := fun i => row m c (i 0) (i 1)

/-- The result buffer after the host's reshape holds the rows of tokens, reshaped. -/
theorem tail : (Pipeline.afterTail₀ cfgs (dats m) 0 (V0 m) [hostOps1] c main_v7 : FVec Ideal S16x4096x1024 .f32)
    = shapeCast S16x4096x1024 (rows m c) shapeCasts_S65536x1024_S16x4096x1024 := by
  unfold Pipeline.afterTail₀
  show StableHlo.after hostOps1 _ _ = _
  after_results
  have h := Pipeline.withArrays_arr spec0 (by decide) c (V0 m c) (fun w => (dats m 0 c).arrAt w cfg0.N) 5
  rw [array m c (rows m c) fun _ _ => rfl] at h
  exact congrArg (fun X : FVec Ideal S65536x1024 .f32 => shapeCast S16x4096x1024 X shapeCasts_S65536x1024_S16x4096x1024) h

/-- The reshaped rows at batch `b`, position `s`: row `4096 * b + s`. -/
theorem rows_apply (b : Fin 16) (s : Fin 4096) (h : Fin 1024) :
    shapeCast S16x4096x1024 (rows m c) shapeCasts_S65536x1024_S16x4096x1024 (ix3 b s h)
      = token (m ((c : Thread nD τ).loc main_arg0)) (m ((c : Thread nD τ).loc main_arg1)) (m ((c : Thread nD τ).loc main_arg2))
          (m ((c : Thread nD τ).loc main_arg3)) (m ((c : Thread nD τ).loc main_arg4)) b s h := by
  have e : shapeCast S16x4096x1024 (rows m c) shapeCasts_S65536x1024_S16x4096x1024 (ix3 b s h)
      = row m c ⟨b.val * 4096 + s.val, by omega⟩ h := by
    pointwise [rows]
  rw [e]
  unfold row
  congr 1 <;> exact Fin.ext (by dsimp only; omega)

end Cert.Tokens

end
-- ==== Proof.lean ====
/-
  The five claims: the frames of the kernel, of the kernel over the extended reals and of the reference; the kernel over
  the extended reals is the kernel; and kernel and reference end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import proofs.«01_k».proof.Proof.Value
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The reference runs from any memory, leaves its arguments as they were, and ends with every counter at zero. -/
theorem reference_frame : Cert.quiescent_ReferenceIdeal (hReferenceIdeal := Cert.ReferenceIdeal.Gen.facts) := by
  intro m g _
  exact θ_run_mono (Cert.ReferenceIdeal.Value.run m g)
    fun r h => ⟨fun c => (h c).2, Idealize.ShloMosaic.sem_eq_zero_of_no_sems (by decide) r.2⟩

/-- From equal arguments the kernel and the reference, over the extended reals, end with the same result: every element
    is the token. -/
theorem same_tokens : Cert.algebraic_KernelIdeal_ReferenceIdeal (hKernelIdeal := Cert.KernelIdeal.Gen.facts)
    (hReferenceIdeal := Cert.ReferenceIdeal.Gen.facts) := by
  intro m g m' g' _ hagree
  refine ⟨fun c => shapeCast Cert.KernelIdeal.S16x4096x1024 (Cert.Tokens.rows m c)
    Cert.KernelIdeal.Gen.facts₀.shapeCasts_S65536x1024_S16x4096x1024, ?_, ?_⟩
  · exact θ_run_mono (θ_run_and (Cert.KernelIdeal.Gen.run_main m g) (Cert.KernelIdeal.Gen.unchanged m g))
      fun r h c => ⟨((h.1 c).2 Cert.KernelIdeal.main_v7 (by decide)).trans (Cert.Tokens.tail m c), h.2 c⟩
  · refine θ_run_mono (Cert.ReferenceIdeal.Value.run m' g') fun r h c => ⟨(h c).1.trans ?_, (h c).2⟩
    obtain ⟨h0, h1, h2, h3, h4⟩ := hagree c
    rw [h0, h1, h2, h3, h4]
    funext i
    obtain ⟨b, s, u, rfl⟩ : ∃ (b : Fin 16) (s : Fin 4096) (u : Fin 1024), i = ix3 b s u := ⟨i 0, i 1, i 2, eq_ix3 i⟩
    exact (Cert.Tokens.hostTokens_apply _ _ _ _ _ b s u).trans (Cert.Tokens.rows_apply m c b s u).symm

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, same_tokens⟩

end Cert.Proof

end
